-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_bags [hPre_real_bags : Cert.Pre_real_bags.Facts] (m : (ℓ : Loc Cert.KernelIdeal.nD Cert.KernelIdeal.τ Cert.KernelIdeal.sig) → Buf (Elt Ideal) ℓ) : Prop :=
  ∀ c : Dev Cert.KernelIdeal.nD,
    (Cert.Pre_real_bags.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_bags [hPre_real_bags : Cert.Pre_real_bags.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_bags.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_real_bags [hKernelIdeal : Cert.KernelIdeal.Facts] [hPre_real_bags : Cert.Pre_real_bags.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_bags m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_real_bags [hReferenceIdeal : Cert.ReferenceIdeal.Facts] [hPre_real_bags : Cert.Pre_real_bags.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_bags m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_real_bags [hKernelIdeal : Cert.KernelIdeal.Facts] [hReferenceIdeal : Cert.ReferenceIdeal.Facts] [hPre_real_bags : Cert.Pre_real_bags.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_bags m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_real_bags : Cert.Pre_real_bags.Facts),
    quiescent_Kernel (hKernel := hKernel)
    ∧ quiescent_KernelIdeal (hKernelIdeal := hKernelIdeal)
    ∧ quiescent_KernelIdeal_pre_real_bags (hKernelIdeal := hKernelIdeal) (hPre_real_bags := hPre_real_bags)
    ∧ quiescent_ReferenceIdeal (hReferenceIdeal := hReferenceIdeal)
    ∧ quiescent_ReferenceIdeal_pre_real_bags (hReferenceIdeal := hReferenceIdeal) (hPre_real_bags := hPre_real_bags)
    ∧ preserves_Kernel_KernelIdeal
    ∧ algebraic_KernelIdeal_ReferenceIdeal_pre_real_bags (hKernelIdeal := hKernelIdeal) (hReferenceIdeal := hReferenceIdeal) (hPre_real_bags := hPre_real_bags)
-- ==== Pre_real_bags.lean ====
abbrev S32x256x128 : Shape := ⟨3, ![32, 256, 128]⟩
abbrev S32 : Shape := ⟨1, ![32]⟩
abbrev S60x64x8x128 : Shape := ⟨4, ![60, 64, 8, 128]⟩
abbrev S_ : Shape := ⟨0, ![]⟩

class Facts : Prop where
  bcast_S_S60x64x8x128 : S_.BroadcastsInDim S60x64x8x128 (![] : Fin 0 → Fin S60x64x8x128.rank)
  reducesTo_S60x64x8x128_S_d0_1_2_3 : S60x64x8x128.ReducesTo [0, 1, 2, 3] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x256x128 .fp8e4m3) (main_arg1 : FVec F S32 .f32) (main_arg2 : IVec S60x64x8x128 32) : IVec S_ 1 :=
  let main_c : IVec S_ 32 := constantI S_ 32 3772834016#32
  let main_v0 : IVec S60x64x8x128 32 := broadcastInDim S60x64x8x128 ![] bcast_S_S60x64x8x128 main_c
  let main_v1 : IVec S60x64x8x128 32 := andi main_arg2 main_v0
  let main_c_0 : IVec S_ 32 := constantI S_ 32 0#32
  let main_v2 : IVec S60x64x8x128 32 := broadcastInDim S60x64x8x128 ![] bcast_S_S60x64x8x128 main_c_0
  let main_v3 : IVec S60x64x8x128 1 := cmpi .eq main_v1 main_v2
  let main_c_1 : IVec S_ 1 := constantI S_ 1 1#1
  let main_v4 : IVec S_ 1 := (fun x v => Host.reduce IntOp.andi x v reducesTo_S60x64x8x128_S_d0_1_2_3 h_S_) main_v3 main_c_1
  let main_cst : FVec F S_ .f32 := constant S_ .f32 0x00000000#32
  let main_v5 : FVec F S32 .f32 := broadcastInDim S32 ![] bcast_S_S32 main_cst
  let main_v6 : IVec S32 1 := cmpf .oge main_arg1 main_v5
  let main_cst_2 : FVec F S_ .f32 := constant S_ .f32 0x7F800000#32
  let main_v7 : FVec F S32 .f32 := broadcastInDim S32 ![] bcast_S_S32 main_cst_2
  let main_v8 : IVec S32 1 := cmpf .olt main_arg1 main_v7
  let main_v9 : IVec S32 1 := andi main_v6 main_v8
  let main_c_3 : IVec S_ 1 := constantI S_ 1 1#1
  let main_v10 : IVec S_ 1 := (fun x v => Host.reduce IntOp.andi x v reducesTo_S32_S_d0 h_S_) main_v9 main_c_3
  let main_v11 : IVec S_ 1 := andi main_v4 main_v10
  main_v11
-- ==== Kernel.lean ====
abbrev S32x256x128 : Shape := ⟨3, ![32, 256, 128]⟩
abbrev S32 : Shape := ⟨1, ![32]⟩
abbrev S60x64x8x128 : Shape := ⟨4, ![60, 64, 8, 128]⟩
abbrev S32x128x256 : Shape := ⟨3, ![32, 128, 256]⟩
abbrev S1920x4096 : Shape := ⟨2, ![1920, 4096]⟩
abbrev S12x64x8x128 : Shape := ⟨4, ![12, 64, 8, 128]⟩
abbrev S384x4096 : Shape := ⟨2, ![384, 4096]⟩
abbrev S3x4096x128 : Shape := ⟨3, ![3, 4096, 128]⟩
abbrev S1x1x8x128 : Shape := ⟨4, ![1, 1, 8, 128]⟩
abbrev S8x128 : Shape := ⟨2, ![8, 128]⟩
abbrev S8x256 : Shape := ⟨2, ![8, 256]⟩
abbrev S96x256 : Shape := ⟨2, ![96, 256]⟩
abbrev S96x512 : Shape := ⟨2, ![96, 512]⟩
abbrev S384x512 : Shape := ⟨2, ![384, 512]⟩
abbrev S1x128x256 : Shape := ⟨3, ![1, 128, 256]⟩
abbrev S128x256 : Shape := ⟨2, ![128, 256]⟩
abbrev S128x512 : Shape := ⟨2, ![128, 512]⟩
abbrev S128x384 : Shape := ⟨2, ![128, 384]⟩
abbrev S1 : Shape := ⟨1, ![1]⟩
abbrev S128x128 : Shape := ⟨2, ![128, 128]⟩
abbrev S1x128x128 : Shape := ⟨3, ![1, 128, 128]⟩

abbrev nBuf : Space → Nat
  | .hbm => 5
  | .vmem => 6
  | .smem => 1
  | _ => 0

abbrev bufTy : (tb : Table) → Fin (tcTables nBuf tb) → BufTy
  | .hbm, ⟨0, _⟩ => ⟨S32x256x128, .fp8e4m3⟩
  | .hbm, ⟨1, _⟩ => ⟨S32, .f32⟩
  | .hbm, ⟨2, _⟩ => ⟨S60x64x8x128, .i32⟩
  | .hbm, ⟨3, _⟩ => ⟨S32x128x256, .fp8e4m3⟩
  | .hbm, ⟨4, _⟩ => ⟨S1920x4096, .bf16⟩
  | .local _ .vmem, ⟨0, _⟩ => ⟨S12x64x8x128, .i32⟩
  | .local _ .vmem, ⟨1, _⟩ => ⟨S12x64x8x128, .i32⟩
  | .local _ .vmem, ⟨2, _⟩ => ⟨S32x128x256, .fp8e4m3⟩
  | .local _ .vmem, ⟨3, _⟩ => ⟨S384x4096, .bf16⟩
  | .local _ .vmem, ⟨4, _⟩ => ⟨S384x4096, .bf16⟩
  | .local _ .vmem, ⟨5, _⟩ => ⟨S3x4096x128, .f32⟩
  | .local _ .smem, ⟨0, _⟩ => ⟨S32, .f32⟩
  | _, _ => ⟨S32x256x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12x64x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x256x128 : Shape := ⟨3, ![32, 256, 128]⟩
abbrev S32 : Shape := ⟨1, ![32]⟩
abbrev S60x64x8x128 : Shape := ⟨4, ![60, 64, 8, 128]⟩
abbrev S32x1x1 : Shape := ⟨3, ![32, 1, 1]⟩
abbrev S60x32x2x8x1x128 : Shape := ⟨6, ![60, 32, 2, 8, 1, 128]⟩
abbrev S4 : Shape := ⟨1, ![4]⟩
abbrev S_ : Shape := ⟨0, ![]⟩
abbrev S1x1x1x1x4x1 : Shape := ⟨6, ![1, 1, 1, 1, 4, 1]⟩
abbrev S60x32x2x8x4x128 : Shape := ⟨6, ![60, 32, 2, 8, 4, 128]⟩
abbrev S60x8x4x32x2x128 : Shape := ⟨6, ![60, 8, 4, 32, 2, 128]⟩
abbrev S1920x32x256 : Shape := ⟨3, ![1920, 32, 256]⟩
abbrev S32x128x1920 : Shape := ⟨3, ![32, 128, 1920]⟩
abbrev S1920x32x128 : Shape := ⟨3, ![1920, 32, 128]⟩
abbrev S1920x128x32 : Shape := ⟨3, ![1920, 128, 32]⟩
abbrev S1920x4096 : Shape := ⟨2, ![1920, 4096]⟩

abbrev nBuf : Space → Nat
  | .hbm => 25
  | .vmem => 3
  | .smem => 0
  | _ => 0

abbrev bufTy : (tb : Table) → Fin (tcTables nBuf tb) → BufTy
  | .hbm, ⟨0, _⟩ => ⟨S32x256x128, .fp8e4m3⟩
  | .hbm, ⟨1, _⟩ => ⟨S32, .f32⟩
  | .hbm, ⟨2, _⟩ => ⟨S60x64x8x128, .i32⟩
  | .hbm, ⟨3, _⟩ => ⟨S32x1x1, .f32⟩
  | .hbm, ⟨4, _⟩ => ⟨S32x256x128, .f32⟩
  | .hbm, ⟨5, _⟩ => ⟨S60x32x2x8x1x128, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S1x1x1x1x4x1, .i32⟩
  | .hbm, ⟨11, _⟩ => ⟨S60x32x2x8x4x128, .i32⟩
  | .hbm, ⟨12, _⟩ => ⟨S60x32x2x8x4x128, .i32⟩
  | .hbm, ⟨13, _⟩ => ⟨S60x32x2x8x4x128, .i32⟩
  | .hbm, ⟨14, _⟩ => ⟨S_, .i32⟩
  | .hbm, ⟨15, _⟩ => ⟨S60x32x2x8x4x128, .i32⟩
  | .hbm, ⟨16, _⟩ => ⟨S60x32x2x8x4x128, .i32⟩
  | .hbm, ⟨17, _⟩ => ⟨S60x8x4x32x2x128, .i32⟩
  | .hbm, ⟨18, _⟩ => ⟨S1920x32x256, .i32⟩
  | .hbm, ⟨19, _⟩ => ⟨S1920x32x256, .f32⟩
  | .hbm, ⟨20, _⟩ => ⟨S32x128x1920, .f32⟩
  | .hbm, ⟨21, _⟩ => ⟨S1920x32x128, .f32⟩
  | .hbm, ⟨22, _⟩ => ⟨S1920x128x32, .f32⟩
  | .hbm, ⟨23, _⟩ => ⟨S1920x4096, .f32⟩
  | .hbm, ⟨24, _⟩ => ⟨S1920x4096, .bf16⟩
  | .local _ .vmem, ⟨0, _⟩ => ⟨S32x1x1, .f32⟩
  | .local _ .vmem, ⟨1, _⟩ => ⟨S32x256x128, .fp8e4m3⟩
  | .local _ .vmem, ⟨2, _⟩ => ⟨S32x256x128, .f32⟩
  | _, _ => ⟨S32x256x128, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S32x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x256x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Count.lean ====
/-
  The arithmetic of a packed count, over the extended reals. A count is one byte of a word. Its low four bits and its
  fifth bit, each read as an fp8 number, are the count's two parts over 512, and the products with the two parts, summed
  and scaled back by 512, are the products with the count itself.
-/
module

public import Idealize.ShloMosaic.PureOps.Ideal
public import Mathlib.Tactic.IntervalCases

@[expose] public section

noncomputable section

namespace PackedCount

open Idealize.ShloMosaic

/-- The fp8 number whose bits are the byte `b`. -/
def fp8 (b : BitVec 8) : EReal := Ideal.ofBits .fp8e4m3 b

/-- A byte below 16 reads as that many steps of 1/512. -/
theorem fp8_lo (b : BitVec 8) : fp8 (b &&& 0x0F#8) = (((b.toNat % 16 : ℕ) : ℝ) / 512 : ℝ) := by
  have hb : (b &&& 0x0F#8) = BitVec.ofNat 8 (b.toNat % 16) := by
    apply BitVec.eq_of_toNat_eq
    simp only [BitVec.toNat_and, BitVec.toNat_ofNat]
    have : b.toNat &&& (15 % 2 ^ 8) = b.toNat % 2 ^ 4 := Nat.and_two_pow_sub_one_eq_mod _ 4
    omega
  rw [hb]
  have hn : b.toNat % 16 < 16 := Nat.mod_lt _ (by decide)
  generalize b.toNat % 16 = n at hn
  unfold fp8
  interval_cases n <;> simp [Ideal.ofBits, Ideal.e4m3fn, -EReal.coe_mul] <;> norm_num

/-- A byte's fifth bit alone reads as 16 steps of 1/512 or none. -/
theorem fp8_hi (b : BitVec 8) : fp8 (b &&& 0x10#8) = (((b.toNat / 16 % 2 * 16 : ℕ) : ℝ) / 512 : ℝ) := by
  have hb : (b &&& 0x10#8) = BitVec.ofNat 8 (b.toNat / 16 % 2 * 16) := by
    revert b; decide
  rw [hb]
  have hn : b.toNat / 16 % 2 < 2 := Nat.mod_lt _ (by decide)
  generalize b.toNat / 16 % 2 = n at hn
  unfold fp8
  interval_cases n <;> simp [Ideal.ofBits, Ideal.e4m3fn, -EReal.coe_mul] <;> norm_num

/-- A finite non-negative factor passes into a sum. -/
theorem sum_mul_of_nonneg {ι : Type} (s : Finset ι) (f : ι → EReal) (r : EReal) (h0 : 0 ≤ r) (ht : r ≠ ⊤) :
    (∑ k ∈ s, f k) * r = ∑ k ∈ s, f k * r := by
  classical
  induction s using Finset.induction_on with
  | empty => simp
  | insert a s ha ih =>
    rw [Finset.sum_insert ha, Finset.sum_insert ha, EReal.right_distrib_of_nonneg_of_ne_top h0 ht, ih]

/-- One product: the two parts of the count, scaled back, are the count. -/
theorem parts_mul (c : EReal) (σ : ℝ) (b : BitVec 8) (hb : b.toNat < 32) :
    (c * fp8 (b &&& 0x0F#8) + c * fp8 (b &&& 0x10#8)) * ((σ : EReal) * ((512 : ℝ) : EReal))
      = c * (σ : EReal) * ((b.toNat : ℝ) : EReal) := by
  rw [fp8_lo, fp8_hi, ← EReal.left_distrib_of_nonneg (by exact_mod_cast (by positivity)) (by exact_mod_cast (by positivity)),
    ← EReal.coe_add, ← EReal.coe_mul, mul_assoc, mul_assoc, ← EReal.coe_mul, ← EReal.coe_mul]
  congr 2
  have : b.toNat = b.toNat % 16 + b.toNat / 16 % 2 * 16 := by omega
  have h : (b.toNat : ℝ) = ((b.toNat % 16 : ℕ) : ℝ) + ((b.toNat / 16 % 2 * 16 : ℕ) : ℝ) := by exact_mod_cast this
  rw [h]
  ring

/-- The pooled value: the sum with both parts, scaled by the scale times 512, is the sum of the dequantised rows, each as
    often as it is counted. -/
theorem pooled_eq {n : ℕ} (c : Fin n → EReal) (b : Fin n → BitVec 8) (hb : ∀ k, (b k).toNat < 32) (s : EReal)
    (h0 : 0 ≤ s) (ht : s < ⊤) :
    ((∑ k, c k * fp8 (b k &&& 0x0F#8)) + ∑ k, c k * fp8 (b k &&& 0x10#8)) * (s * ((512 : ℝ) : EReal))
      = ∑ k, c k * s * (((b k).toNat : ℝ) : EReal) := by
  obtain ⟨σ, rfl⟩ : ∃ σ : ℝ, s = (σ : EReal) :=
    ⟨s.toReal, (EReal.coe_toReal ht.ne (fun h => by rw [h] at h0; exact absurd h0 (by simp))).symm⟩
  have hσ : 0 ≤ σ := by exact_mod_cast h0
  rw [← Finset.sum_add_distrib, sum_mul_of_nonneg _ _ _
    (by rw [← EReal.coe_mul]; exact_mod_cast (by positivity)) (by rw [← EReal.coe_mul]; exact EReal.coe_ne_top _)]
  exact Finset.sum_congr rfl fun k _ => parts_mul (c k) σ (b k) (hb k)

/-- Byte `j` of a packed word. -/
def byte (w : BitVec 32) (j : ℕ) : BitVec 8 := w.extractLsb' (8 * j) 8

/-- Shifting a word right by whole bytes and keeping eight bits reads off the byte as a number. -/
theorem sitofp_byte (w : BitVec 32) (j : ℕ) (hj : j < 4) :
    (FloatOps.sitofp FTy.f32 (IntOp.andi (IntOp.shrsi ArithUnit.host w (IntOp.muli 8#32 (BitVec.ofNat 32 j))) 255#32) : Ideal .f32)
      = (((byte w j).toNat : ℝ) : EReal) := by
  have key : IntOp.andi (IntOp.shrsi ArithUnit.host w (IntOp.muli 8#32 (BitVec.ofNat 32 j))) 255#32
      = (byte w j).setWidth 32 := by
    have hm : (IntOp.muli 8#32 (BitVec.ofNat 32 j)).toNat = 8 * j := by
      simp only [IntOp.muli, BitVec.toNat_mul, BitVec.toNat_ofNat]
      omega
    unfold IntOp.shrsi IntOp.andi
    rw [if_pos (by omega), BitVec.sshiftRight', hm]
    apply BitVec.eq_of_getLsbD_eq
    intro i hi
    have h255 : (255#32).getLsbD i = decide (i < 8) := by
      interval_cases i <;> rfl
    simp only [BitVec.getLsbD_and, BitVec.getLsbD_sshiftRight, h255, BitVec.getLsbD_setWidth, byte, BitVec.getLsbD_extractLsb']
    by_cases h8 : i < 8
    · have : 8 * j + i < 32 := by omega
      have h' : ¬ 32 ≤ i := by omega
      simp [this, h', hi, h8]
    · simp [h8]
  rw [key]
  show (((BitVec.setWidth 32 (byte w j)).toInt : ℝ) : EReal) = _
  have : (BitVec.setWidth 32 (byte w j)).toInt = ((byte w j).toNat : ℤ) := by
    have h := (byte w j).isLt
    rw [BitVec.toInt_eq_toNat_cond, BitVec.toNat_setWidth, Nat.mod_eq_of_lt (by omega), if_pos (by omega)]
  rw [this]; simp

/-- The pooled value of bag `b` at column `y`: the codebook `y % 32` dequantised, its code `k` weighted by how often the bag
    holds it, read off the packed counts, and summed over the 256 codes, at place `y / 32` of the row. -/
def pool (cb : Fin 32 → Fin 256 → Fin 128 → EReal) (sc : Fin 32 → EReal) (cnt : Fin 60 → Fin 64 → Fin 8 → Fin 128 → BitVec 32)
    (b : Fin 1920) (y : Fin 4096) : EReal :=
  ∑ k : Fin 256, cb ⟨y.val % 32, by omega⟩ k ⟨y.val / 32, by omega⟩ * sc ⟨y.val % 32, by omega⟩
    * (((byte (cnt ⟨b.val / 32, by omega⟩ ⟨y.val % 32 * 2 + k.val / 128, by omega⟩ ⟨b.val / 4 % 8, by omega⟩ ⟨k.val % 128, by omega⟩)
        (b.val % 4)).toNat : ℝ) : EReal)

end PackedCount

end

end
-- ==== Proof.Bags.lean ====
/-
  What the precondition says of the arguments: every byte of every packed count is below 32, and every scale is a finite
  number that is not negative.
-/
module

public import proofs.«01_k».proof.Pre_real_bags
public import proofs.«01_k».proof.Proof.Count
public import Idealize.ShloMosaic.Lib.ReduceAll
public import Idealize.ShloMosaic.Lib.Pointwise
public import Idealize.ShloMosaic.Lib.ValueIdx

@[expose] public section

noncomputable section

namespace Cert.Pre_real_bags

open Idealize.ShloMosaic

/-- The side conditions of the predicate's operations. -/
theorem facts : Cert.Pre_real_bags.Facts where
  bcast_S_S60x64x8x128 := by decide
  reducesTo_S60x64x8x128_S_d0_1_2_3 := by decide
  h_S_ := by decide
  bcast_S_S32 := by decide
  reducesTo_S32_S_d0 := by decide

/-- A byte with its three top bits clear is below 32. -/
theorem byte_lt (w : BitVec 32) (j : ℕ) (hj : j < 4) (h : w &&& 3772834016#32 = 0#32) : (PackedCount.byte w j).toNat < 32 := by
  have small : ∀ b : BitVec 8, b &&& 0xE0#8 = 0#8 → b.toNat < 32 := by decide +kernel
  refine small _ ?_
  have e : (3772834016#32).extractLsb' (8 * j) 8 = 0xE0#8 := by
    match j, hj with
    | 0, _ => decide
    | 1, _ => decide
    | 2, _ => decide
    | 3, _ => decide
  unfold PackedCount.byte
  rw [← e, ← BitVec.extractLsb'_and, h, BitVec.extractLsb'_zero]

theorem f32_inf : Ideal.ofBits FTy.f32 0x7F800000#32 = (⊤ : EReal) := by
  simp [Ideal.ofBits, Ideal.ieee]

variable [Cert.Pre_real_bags.Facts]

/-- The precondition, read back. -/
theorem read (cb : FVec Ideal S32x256x128 .fp8e4m3) (sc : FVec Ideal S32 .f32) (cnt : IVec S60x64x8x128 32)
    (h : fn (F := Ideal) cb sc cnt = fun _ => 1#1) :
    (∀ i, cnt i &&& 3772834016#32 = 0#32) ∧ (∀ i, (0 : EReal) ≤ sc i) ∧ (∀ i, (sc i : EReal) < ⊤) := by
  haveI : Subsingleton S_.Idx := ⟨fun a b => funext fun i => i.elim0⟩
  have j : S_.Idx := fun i => i.elim0
  have e := congrFun h j
  obtain ⟨e1, e2⟩ := IntOp.andi_eq_one.1 e
  have key : ∀ i, (0 : EReal) ≤ sc i ∧ (sc i : EReal) < ⊤ := fun i => by
    obtain ⟨a, b⟩ := IntOp.andi_eq_one.1 (Host.reduce_andi_all _ _ _ _ j e2 i)
    have a' : Ideal.cmp .oge (sc i) (Ideal.ofBits FTy.f32 0x00000000#32) = 1#1 := a
    have b' : Ideal.cmp .olt (sc i) (Ideal.ofBits FTy.f32 0x7F800000#32) = 1#1 := b
    have z : Ideal.ofBits FTy.f32 0x00000000#32 = (0 : EReal) := by simp [Ideal.ofBits, Ideal.ieee]
    rw [z] at a'; rw [f32_inf] at b'
    constructor
    · by_contra hn; simp [Ideal.cmp, hn] at a'
    · by_contra hn; simp [Ideal.cmp, hn] at b'
  exact ⟨fun i => IntOp.cmpi_eq.1 (Host.reduce_andi_all _ _ _ _ j e1 i), fun i => (key i).1, fun i => (key i).2⟩

end Cert.Pre_real_bags

end

end
-- ==== Proof.Product.lean ====
/-
  One codebook's product in the kernel, over the extended reals. Twelve pairs of count loads are put side by side, masked
  to the counts' low four bits and to their fifth bit, stacked to 96 rows of words, and the words' bytes read as fp8: row
  `x` of the 384 holds the counts of bag `x` of the block. The table twice side by side, times those bytes, scaled, is at
  each entry the count-weighted sum over the 256 codes (`prod_apply`).
-/
module

public import proofs.«01_k».proof.Proof.Gen.KernelIdeal.Skeleton
public import proofs.«01_k».proof.Proof.Count
public import Idealize.ShloMosaic.Lib.Pointwise
public import Idealize.ShloMosaic.Lib.BitcastPair
public import Idealize.ShloMosaic.Lib.Pipeline.Value

@[expose] public section

noncomputable section

namespace Cert.KernelIdeal.Pool

open Cert.KernelIdeal Cert.KernelIdeal.Gen Idealize.ShloMosaic Idealize.ShloMosaic.TcCoe Idealize.SL.Sem

/-- Words of 32 bits read as bytes: row `4w + j` of the bytes is byte `j` of row `w` of the words. -/
theorem bitcast_byte (x : IVec S96x512 32) (h : S96x512.Bitcasts 32 S384x512 8) (r : Fin 384) (k : Fin 512) :
    bitcast S384x512 8 x h (ix2 r k) = PackedCount.byte (x (ix2 ⟨r.val / 4, by omega⟩ k)) (r.val % 4) := by
  apply BitVec.eq_of_getLsbD_eq
  intro q hq
  rw [bitcast_getLsbD x h _ q hq (by decide)]
  have hrow : S384x512.row (ix2 r k) = r.val := rfl
  have e1 : (r.val * 8 + q) / 32 = r.val / 4 := by omega
  have e2 : (r.val * 8 + q) % 32 = 8 * (r.val % 4) + q := by omega
  unfold PackedCount.byte
  rw [BitVec.getLsbD_extractLsb']
  simp only [hq, decide_true, Bool.true_and, hrow, e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Two loads of counts side by side: the words of eight bag groups for the 256 codes of one codebook. -/
def word (L : Fin 12 → Fin 2 → IVec S1x1x8x128 32) (g : Fin 12) : IVec S8x256 32 :=
  concatenate S8x256 1 [⟨S8x128, shapeCast S8x128 (L g 0) shapeCasts_S1x1x8x128_S8x128⟩,
    ⟨S8x128, shapeCast S8x128 (L g 1) shapeCasts_S1x1x8x128_S8x128⟩] concatenates_S8x128_S8x128_S8x256_d1

def lo (L : Fin 12 → Fin 2 → IVec S1x1x8x128 32) (g : Fin 12) : IVec S8x256 32 := andi (word L g) (broadcast S8x256 252645135#32)
def hi (L : Fin 12 → Fin 2 → IVec S1x1x8x128 32) (g : Fin 12) : IVec S8x256 32 := andi (word L g) (broadcast S8x256 269488144#32)

/-- The twelve blocks of rows stacked. -/
def stack (w : Fin 12 → IVec S8x256 32) : IVec S96x256 32 :=
  concatenate S96x256 0 [⟨S8x256, w 0⟩, ⟨S8x256, w 1⟩, ⟨S8x256, w 2⟩, ⟨S8x256, w 3⟩, ⟨S8x256, w 4⟩, ⟨S8x256, w 5⟩, ⟨S8x256, w 6⟩, ⟨S8x256, w 7⟩, ⟨S8x256, w 8⟩, ⟨S8x256, w 9⟩, ⟨S8x256, w 10⟩, ⟨S8x256, w 11⟩] concatenates_S8x256_S8x256_S8x256_S8x256_S8x256_S8x256_S8x256_S8x256_S8x256_S8x256_S8x256_S8x256_S96x256_d0

/-- The words of both parts side by side. -/
def words (L : Fin 12 → Fin 2 → IVec S1x1x8x128 32) : IVec S96x512 32 :=
  concatenate S96x512 1 [⟨S96x256, stack (lo L)⟩, ⟨S96x256, stack (hi L)⟩] concatenates_S96x256_S96x256_S96x512_d1

variable {F : FTy → Type} [FloatOps F]

/-- The table of one codebook twice side by side. -/
def table (cb : Vec F S1x128x256 .fp8e4m3) : FVec F S128x512 .fp8e4m3 :=
  concatenate S128x512 1 [⟨S128x256, shapeCast S128x256 cb shapeCasts_S1x128x256_S128x256⟩,
    ⟨S128x256, shapeCast S128x256 cb shapeCasts_S1x128x256_S128x256⟩] concatenates_S128x256_S128x256_S128x512_d1

/-- The product of one codebook's table with the bytes of the counts, scaled. -/
def prod (L : Fin 12 → Fin 2 → IVec S1x1x8x128 32) (cb : Vec F S1x128x256 .fp8e4m3) (sc : F .f32) : FVec F S128x384 .f32 :=
  mulf (matmul dot_S128x512_S384x512_S128x384_1_1_0_0_n_n none (table cb)
      (bitcastToFloat .fp8e4m3 (bitcast S384x512 8 (words L) bitcasts_S96x512_w32_S384x512_w8)) (constant S128x384 .f32 0x00000000#32))
    (broadcast S128x384 (Scalar.mulf sc (Scalar.ofBits .f32 0x44000000#32)))

/-- The word at a row and a code. -/
theorem word_apply (L : Fin 12 → Fin 2 → IVec S1x1x8x128 32) (g : Fin 12) (q : Fin 8) (k : Fin 256) :
    word L g (ix2 q k) = L g ⟨k.val / 128, by omega⟩ (ix4 0 0 q ⟨k.val % 128, by omega⟩) := by
  have same : ∀ (h h' : Fin 2) (l l' : Fin 128), h.val = h'.val → l.val = l'.val → L g h (ix4 0 0 q l) = L g h' (ix4 0 0 q l') := by
    intro h h' l l' e e'
    rw [Fin.ext e, Fin.ext e']
  pointwise [word]
  by_cases h : k.val < 128
  · rw [dif_pos h]
    exact same _ _ _ _ (by show 0 = k.val / 128; omega) (by show k.val = k.val % 128; omega)
  · rw [dif_neg h]
    exact same _ _ _ _ (by show 1 = k.val / 128; omega) (by show k.val - 128 = k.val % 128; omega)

set_option maxHeartbeats 1600000 in
/-- Row `8 g + q` of the stack is row `q` of block `g`. -/
theorem stack_at (w : Fin 12 → IVec S8x256 32) (g : Fin 12) (q : Fin 8) (k : Fin 256) :
    stack w (ix2 ⟨8 * g.val + q.val, by omega⟩ k) = w g (ix2 q k) := by
  have same : ∀ (g g' : Fin 12) (q q' : Fin 8), g.val = g'.val → q.val = q'.val → w g (ix2 q k) = w g' (ix2 q' k) := by
    intro g g' q q' e e'
    rw [Fin.ext e, Fin.ext e']
  pointwise [stack]
  fin_vals g with hg
  all_goals
    repeat rw [dif_neg (by omega)]
    try rw [dif_pos (by omega)]
    exact same _ _ _ _ hg.symm (by dsimp only; omega)

theorem stack_apply (w : Fin 12 → IVec S8x256 32) (r : Fin 96) (k : Fin 256) :
    stack w (ix2 r k) = w ⟨r.val / 8, by omega⟩ (ix2 ⟨r.val % 8, by omega⟩ k) := by
  rw [← stack_at w ⟨r.val / 8, by omega⟩ ⟨r.val % 8, by omega⟩ k]
  exact congrArg (fun r => stack w (ix2 r k)) (Fin.ext (by dsimp only; omega))

theorem words_lo (L : Fin 12 → Fin 2 → IVec S1x1x8x128 32) (r : Fin 96) (k : Fin 256) :
    words L (ix2 r ⟨k.val, by omega⟩) = lo L ⟨r.val / 8, by omega⟩ (ix2 ⟨r.val % 8, by omega⟩ k) := by
  rw [← stack_apply (lo L)]
  pointwise [words]

theorem words_hi (L : Fin 12 → Fin 2 → IVec S1x1x8x128 32) (r : Fin 96) (k : Fin 256) :
    words L (ix2 r ⟨256 + k.val, by omega⟩) = hi L ⟨r.val / 8, by omega⟩ (ix2 ⟨r.val % 8, by omega⟩ k) := by
  rw [← stack_apply (hi L)]
  pointwise [words]

/-- Masking every byte of a word masks each of its bytes. -/
theorem byte_and_lo (w : BitVec 32) (j : ℕ) (hj : j < 4) : PackedCount.byte (IntOp.andi w 252645135#32) j = PackedCount.byte w j &&& 0x0F#8 := by
  unfold PackedCount.byte IntOp.andi
  have h : (252645135#32).extractLsb' (8 * j) 8 = 0x0F#8 := by interval_cases j <;> rfl
  rw [← h]
  apply BitVec.eq_of_getLsbD_eq
  intro i hi
  simp [BitVec.getLsbD_and, hi]

theorem byte_and_hi (w : BitVec 32) (j : ℕ) (hj : j < 4) : PackedCount.byte (IntOp.andi w 269488144#32) j = PackedCount.byte w j &&& 0x10#8 := by
  unfold PackedCount.byte IntOp.andi
  have h : (269488144#32).extractLsb' (8 * j) 8 = 0x10#8 := by interval_cases j <;> rfl
  rw [← h]
  apply BitVec.eq_of_getLsbD_eq
  intro i hi
  simp [BitVec.getLsbD_and, hi]

/-- The count of code `k` in bag `x` of the block, as a byte. -/
def count (L : Fin 12 → Fin 2 → IVec S1x1x8x128 32) (x : Fin 384) (k : Fin 256) : BitVec 8 :=
  PackedCount.byte (L ⟨x.val / 32, by omega⟩ ⟨k.val / 128, by omega⟩ (ix4 0 0 ⟨x.val / 4 % 8, by omega⟩ ⟨k.val % 128, by omega⟩)) (x.val % 4)

theorem bytes_lo (L : Fin 12 → Fin 2 → IVec S1x1x8x128 32) (x : Fin 384) (k : Fin 256) (h : S96x512.Bitcasts 32 S384x512 8) :
    bitcast S384x512 8 (words L) h (ix2 x ⟨k.val, by omega⟩) = count L x k &&& 0x0F#8 := by
  rw [bitcast_byte, words_lo]
  show PackedCount.byte (IntOp.andi (word L _ _) 252645135#32) _ = _
  rw [byte_and_lo _ _ (by omega), word_apply]
  unfold count
  simp only [Nat.div_div_eq_div_mul]

theorem bytes_hi (L : Fin 12 → Fin 2 → IVec S1x1x8x128 32) (x : Fin 384) (k : Fin 256) (h : S96x512.Bitcasts 32 S384x512 8) :
    bitcast S384x512 8 (words L) h (ix2 x ⟨256 + k.val, by omega⟩) = count L x k &&& 0x10#8 := by
  rw [bitcast_byte, words_hi]
  show PackedCount.byte (IntOp.andi (word L _ _) 269488144#32) _ = _
  rw [byte_and_hi _ _ (by omega), word_apply]
  unfold count
  simp only [Nat.div_div_eq_div_mul]

/-- The factor 512, from its bits. -/
theorem f32_512 : Ideal.ofBits FTy.f32 1140850688#32 = ((512 : ℝ) : EReal) := by
  simp [Ideal.ofBits, Ideal.ieee, -EReal.coe_mul]; norm_num

/-- The product at an entry: when no count exceeds 31 and the scale is a finite non-negative number, the sum over the codes of the
    table's value times the scale times the count. -/
theorem prod_apply (L : Fin 12 → Fin 2 → IVec S1x1x8x128 32) (cb : Vec Ideal S1x128x256 .fp8e4m3) (sc : EReal) (s : Fin 128) (x : Fin 384)
    (hc : ∀ k, (count L x k).toNat < 32) (h0 : 0 ≤ sc) (ht : sc < ⊤) :
    prod (F := Ideal) L cb sc (ix2 s x) = ∑ k : Fin 256, (cb (ix3 0 s k) : EReal) * sc * (((count L x k).toNat : ℝ) : EReal) := by
  pointwise [prod, table]
  rw [f32_512]
  simp only [bytes_lo, bytes_hi]
  exact PackedCount.pooled_eq _ _ hc sc h0 ht

end Cert.KernelIdeal.Pool

end

end
-- ==== Proof.Acc.lean ====
/-
  What the kernel's body stores, named: 96 strided stores into the scratch array, one for each codebook and each third of the
  block's bags (`acc_eq`), then 96 stores into the output block, each a transposed square of the scratch (`outs_eq`).
-/
module

public import proofs.«01_k».proof.Proof.Product
public import proofs.«01_k».proof.Proof.Gen.KernelIdeal.Value

@[expose] public section

set_option maxRecDepth 65536

noncomputable section

namespace Cert.KernelIdeal.Pool

open Cert.KernelIdeal Cert.KernelIdeal.Gen Idealize.ShloMosaic Idealize.ShloMosaic.TcCoe Idealize.SL.Sem
open Idealize.ShloMosaic.Tactic

variable {F : FTy → Type} [FloatOps F]

/-! ## The loads -/

theorem inb_cnt (m : Fin 32) (g : Fin 12) (h : Fin 2) (a : Fin 4) :
    (![g.val, 2 * m.val + h.val, 0, 0] : Fin 4 → ℕ) a + S1x1x8x128.size a ≤ S12x64x8x128.size a := by
  match a with
  | ⟨0, _⟩ => show g.val + 1 ≤ 12; omega
  | ⟨1, _⟩ => show 2 * m.val + h.val + 1 ≤ 64; omega
  | ⟨2, _⟩ => show 0 + 8 ≤ 8; omega
  | ⟨3, _⟩ => show 0 + 128 ≤ 128; omega

theorem inb_cb (m : Fin 32) (a : Fin 3) : (![m.val, 0, 0] : Fin 3 → ℕ) a + S1x128x256.size a ≤ S32x128x256.size a := by
  match a with
  | ⟨0, _⟩ => show m.val + 1 ≤ 32; omega
  | ⟨1, _⟩ => show 0 + 128 ≤ 128; omega
  | ⟨2, _⟩ => show 0 + 256 ≤ 256; omega

theorem inb_sc (m : Fin 32) (a : Fin 1) : (![m.val] : Fin 1 → ℕ) a + S1.size a ≤ S32.size a := by
  match a with
  | ⟨0, _⟩ => show m.val + 1 ≤ 32; omega

abbrev rCnt (m : Fin 32) (g : Fin 12) (h : Fin 2) : Rect S12x64x8x128 :=
  Rect.unit (s := S12x64x8x128) ![g.val, 2 * m.val + h.val, 0, 0] S1x1x8x128.size (inb_cnt m g h)
abbrev rCb (m : Fin 32) : Rect S32x128x256 := Rect.unit (s := S32x128x256) ![m.val, 0, 0] S1x128x256.size (inb_cb m)
abbrev rSc (m : Fin 32) : Rect S32 := Rect.unit (s := S32) ![m.val] S1.size (inb_sc m)

theorem one_numel (m : Fin 32) : 0 < (rSc m).shape.numel := by
  show 0 < S1.numel
  decide

section
variable (c : Dev nD) (arg1 : Memref sig .tc .smem S32 .f32) (harg1 : arg1.IsWhole) (arg2 : Memref sig .tc .vmem S12x64x8x128 .i32) (harg2 : arg2.IsWhole)
  (arg3 : Memref sig .tc .vmem S32x128x256 .fp8e4m3) (harg3 : arg3.IsWhole) (arg5 : Memref sig .tc .vmem S3x4096x128 .f32)
  (x0 : Vec F S32 .f32) (x1 : Vec F S12x64x8x128 .i32) (x2 : Vec F S32x128x256 .fp8e4m3)

/-- The product of codebook `m`, over the loads as the run spells them. -/
def prodOf (m : Fin 32) : FVec F S128x384 .f32 :=
  prod (fun g h => View.readAt (Elt F) arg2.view (rCnt m g h).toLoadRect (harg2.unread x1))
    (View.readAt (Elt F) arg3.view (rCb m).toLoadRect (harg3.unread x2))
    (View.readAt (Elt F) arg1.view (rSc m).toLoadRect (harg1.unread x0) (Shape.Idx.first (one_numel m)))

/-! ## The scratch array -/

theorem inb_acc (q : Fin 3) (m : Fin 32) (a : Fin 3) :
    S1x128x128.size a = 0 ∨ (![q.val, m.val, 0] : Fin 3 → ℕ) a + (![1, 32, 1] : Fin 3 → ℕ) a * (S1x128x128.size a - 1) < S3x4096x128.size a := by
  right
  match a with
  | ⟨0, _⟩ => show q.val + 1 * (1 - 1) < 3; omega
  | ⟨1, _⟩ => show m.val + 32 * (128 - 1) < 4096; omega
  | ⟨2, _⟩ => show 0 + 1 * (128 - 1) < 128; omega

/-- Where third `q` of codebook `m`'s product goes: every 32nd row of plane `q`, from row `m`. -/
abbrev rAcc (q : Fin 3) (m : Fin 32) : Rect S3x4096x128 :=
  ⟨(⟨![q.val, m.val, 0], S1x128x128.size, ![1, 32, 1], inb_acc q m⟩ : LoadRect S3x4096x128), spos_1_32_1⟩

theorem slices_acc (q : Fin 3) : S128x384.Slices (![0, 128 * q.val] : Fin 2 → ℕ) S128x128 := by
  match q with
  | ⟨0, _⟩ => exact slices_S128x384_o0_0_S128x128
  | ⟨1, _⟩ => exact slices_S128x384_o0_128_S128x128
  | ⟨2, _⟩ => exact slices_S128x384_o0_256_S128x128

/-- One third of a product, as a plane. -/
def third (v : FVec F S128x384 .f32) (q : Fin 3) : FVec F S1x128x128 .f32 :=
  shapeCast S1x128x128 (extractStridedSlice S128x128 ![0, 128 * q.val] v (slices_acc q)) shapeCasts_S128x128_S1x128x128

/-- A list of stores, the last first. -/
def down {α : Type} (f : ℕ → α) : ℕ → List α
  | 0 => []
  | n + 1 => f n :: down f n

theorem mem_down {α : Type} (f : ℕ → α) (n : ℕ) (p : α) : p ∈ down f n ↔ ∃ k < n, f k = p := by
  induction n with
  | zero => simp [down]
  | succ n ih =>
    rw [down, List.mem_cons, ih]
    constructor
    · rintro (rfl | ⟨k, hk, rfl⟩)
      · exact ⟨n, Nat.lt_succ_self n, rfl⟩
      · exact ⟨k, Nat.lt_succ_of_lt hk, rfl⟩
    · rintro ⟨k, hk, rfl⟩
      rcases Nat.lt_succ_iff_lt_or_eq.mp hk with h | h
      · exact .inr ⟨k, h, rfl⟩
      · exact .inl (by rw [h])

/-- Store number `n` into the scratch array. -/
def accPiece (n : ℕ) : View.Piece (Elt F) S3x4096x128 .f32 :=
  ⟨rAcc ⟨n % 3, by omega⟩ ⟨n / 3 % 32, by omega⟩, third (prodOf arg1 harg1 arg2 harg2 arg3 harg3 x0 x1 x2 ⟨n / 3 % 32, by omega⟩) ⟨n % 3, by omega⟩⟩

/-- The run's list of stores into the scratch array is these 96. -/
theorem acc_eq : kernelRun0_A.sl.HS0_96 c arg1 harg1 arg2 harg2 arg3 harg3 x0 x1 x2
    = down (accPiece arg1 harg1 arg2 harg2 arg3 harg3 x0 x1 x2) 96 := by
  sl_kernel_rfl

/-- What the scratch array holds after them: at plane `q`, row `r`, lane `l`, codebook `r % 32`'s product at place `r / 32` and bag
    `128 q + l` of the block. -/
def accVal (z : S3x4096x128.Idx) : F .f32 :=
  prodOf arg1 harg1 arg2 harg2 arg3 harg3 x0 x1 x2 ⟨(z 1).val % 32, Nat.mod_lt _ (by decide)⟩
    (ix2 ⟨(z 1).val / 32, by have h : (z 1).val < 4096 := (z 1).isLt; omega⟩
      ⟨128 * (z 0).val + (z 2).val, by have h : (z 0).val < 3 := (z 0).isLt; have h' : (z 2).val < 128 := (z 2).isLt; omega⟩)

theorem third_apply (v : FVec F S128x384 .f32) (q : Fin 3) (a : Fin 1) (s l : Fin 128) :
    third v q (ix3 a s l) = v (ix2 s ⟨128 * q.val + l.val, by omega⟩) := by
  pointwise [third]

theorem acc_canon (z : S3x4096x128.Idx) :
    View.canon (kernelRun0_A.sl.HS0_96 c arg1 harg1 arg2 harg2 arg3 harg3 x0 x1 x2) z = accVal arg1 harg1 arg2 harg2 arg3 harg3 x0 x1 x2 z := by
  rw [acc_eq]
  refine View.canon_apply_of_pieces (Val := Elt F) (e := .f32) (accVal arg1 harg1 arg2 harg2 arg3 harg3 x0 x1 x2) _ (fun p hp j => ?_) z ?_
  · obtain ⟨n, hn, rfl⟩ := (mem_down _ _ _).1 hp
    have e : j = ix3 (j 0) (j 1) (j 2) := by
      funext a; match a with | ⟨0, _⟩ => rfl | ⟨1, _⟩ => rfl | ⟨2, _⟩ => rfl
    have h0 : (j 0).val < 1 := (j 0).isLt
    have h1 : (j 1).val < 128 := (j 1).isLt
    have h2 : (j 2).val < 128 := (j 2).isLt
    show third (prodOf arg1 harg1 arg2 harg2 arg3 harg3 x0 x1 x2 ⟨n / 3 % 32, _⟩) ⟨n % 3, _⟩ j = _
    rw [e]
    refine (third_apply _ _ _ _ _).trans ?_
    have z0 : ((rAcc ⟨n % 3, by omega⟩ ⟨n / 3 % 32, by omega⟩).emb j 0).val = n % 3 + 1 * (j 0).val := rfl
    have z1 : ((rAcc ⟨n % 3, by omega⟩ ⟨n / 3 % 32, by omega⟩).emb j 1).val = n / 3 % 32 + 32 * (j 1).val := rfl
    have z2 : ((rAcc ⟨n % 3, by omega⟩ ⟨n / 3 % 32, by omega⟩).emb j 2).val = 0 + 1 * (j 2).val := rfl
    unfold accVal
    have key : ∀ (m m' : Fin 32) (s s' : Fin 128) (x x' : Fin 384), m.val = m'.val → s.val = s'.val → x.val = x'.val →
        prodOf arg1 harg1 arg2 harg2 arg3 harg3 x0 x1 x2 m (ix2 s x) = prodOf arg1 harg1 arg2 harg2 arg3 harg3 x0 x1 x2 m' (ix2 s' x') := by
      intro m m' s s' x x' em es ex
      rw [Fin.ext em, Fin.ext es, Fin.ext ex]
    rw [← e]
    refine key _ _ _ _ _ _ ?_ ?_ ?_
    · refine Eq.trans ?_ (congrArg (· % 32) z1.symm); dsimp only; omega
    · refine Eq.trans ?_ (congrArg (· / 32) z1.symm); dsimp only; omega
    · refine Eq.trans ?_ (congrArg₂ (fun a b => 128 * a + b) z0.symm z2.symm); dsimp only; omega
  · have h0 : (z 0).val < 3 := (z 0).isLt
    have h1 : (z 1).val < 4096 := (z 1).isLt
    have h2 : (z 2).val < 128 := (z 2).isLt
    refine ⟨_, (mem_down _ _ _).2 ⟨3 * ((z 1).val % 32) + (z 0).val, by omega, rfl⟩, ?_⟩
    refine (LoadRect.mem_set _).2 fun a => ?_
    match a with
    | ⟨0, _⟩ => exact ⟨0, by show 0 < 1; decide, by show (z 0).val = (3 * ((z 1).val % 32) + (z 0).val) % 3 + 1 * 0; omega⟩
    | ⟨1, _⟩ => exact ⟨(z 1).val / 32, by show _ < 128; omega, by
        show (z 1).val = (3 * ((z 1).val % 32) + (z 0).val) / 3 % 32 + 32 * ((z 1).val / 32); omega⟩
    | ⟨2, _⟩ => exact ⟨(z 2).val, h2, by show (z 2).val = 0 + 1 * (z 2).val; omega⟩

/-! ## The output block -/

theorem inb_out (q : Fin 3) (t : Fin 32) (a : Fin 2) : (![128 * q.val, 128 * t.val] : Fin 2 → ℕ) a + S128x128.size a ≤ S384x4096.size a := by
  match a with
  | ⟨0, _⟩ => show 128 * q.val + 128 ≤ 384; omega
  | ⟨1, _⟩ => show 128 * t.val + 128 ≤ 4096; omega

theorem inb_back (q : Fin 3) (t : Fin 32) (a : Fin 3) : (![q.val, 128 * t.val, 0] : Fin 3 → ℕ) a + S1x128x128.size a ≤ S3x4096x128.size a := by
  match a with
  | ⟨0, _⟩ => show q.val + 1 ≤ 3; omega
  | ⟨1, _⟩ => show 128 * t.val + 128 ≤ 4096; omega
  | ⟨2, _⟩ => show 0 + 128 ≤ 128; omega

abbrev rOut (q : Fin 3) (t : Fin 32) : Rect S384x4096 := Rect.unit (s := S384x4096) ![128 * q.val, 128 * t.val] S128x128.size (inb_out q t)
abbrev rBack (q : Fin 3) (t : Fin 32) : Rect S3x4096x128 := Rect.unit (s := S3x4096x128) ![q.val, 128 * t.val, 0] S1x128x128.size (inb_back q t)

/-- A plane of the scratch array turned round and narrowed. -/
def turned (v : Vec F S1x128x128 .f32) : FVec F S128x128 .bf16 :=
  truncf .bf16 (transpose S128x128 [1, 0] (shapeCast S128x128 v shapeCasts_S1x128x128_S128x128) transposes_S128x128_p1_0_S128x128) bitsLt_bf16_f32

/-- Store number `n` into the output block. -/
def outPiece (n : ℕ) : View.Piece (Elt F) S384x4096 .bf16 :=
  ⟨rOut ⟨n / 32 % 3, by omega⟩ ⟨n % 32, by omega⟩,
    turned (arg5.view.readCov (kernelRun0_A.sl.HS0_96 c arg1 harg1 arg2 harg2 arg3 harg3 x0 x1 x2)
      (rBack ⟨n / 32 % 3, by omega⟩ ⟨n % 32, by omega⟩).toLoadRect)⟩

/-- The run's list of stores into the output block is these 96. -/
theorem outs_eq (i : grid0.Coords) (arg4 : Memref sig .tc .vmem S384x4096 .bf16) (harg4 : arg4.IsWhole) (harg5 : arg5.IsWhole) :
    (kernelRun0_A c i arg1 harg1 arg2 harg2 arg3 harg3 arg4 harg4 arg5 harg5 x0 x1 x2).1
      = down (outPiece c arg1 harg1 arg2 harg2 arg3 harg3 arg5 x0 x1 x2) 96 := by
  sl_kernel_rfl

end

section
variable (c : Dev nD) (arg1 : Memref sig .tc .smem S32 .f32) (harg1 : arg1.IsWhole) (arg2 : Memref sig .tc .vmem S12x64x8x128 .i32) (harg2 : arg2.IsWhole)
  (arg3 : Memref sig .tc .vmem S32x128x256 .fp8e4m3) (harg3 : arg3.IsWhole) (arg5 : Memref sig .tc .vmem S3x4096x128 .f32)
  (x0 : Vec Ideal S32 .f32) (x1 : Vec Ideal S12x64x8x128 .i32) (x2 : Vec Ideal S32x128x256 .fp8e4m3)

/-- What the output block holds: bag `b`, column `y`, is codebook `y % 32`'s product at place `y / 32`. -/
def outVal (y : S384x4096.Idx) : EReal :=
  prodOf (F := Ideal) arg1 harg1 arg2 harg2 arg3 harg3 x0 x1 x2 ⟨(y 1).val % 32, Nat.mod_lt _ (by decide)⟩
    (ix2 ⟨(y 1).val / 32, by have h : (y 1).val < 4096 := (y 1).isLt; omega⟩ (y 0))

theorem turned_apply (v : Vec Ideal S1x128x128 .f32) (l s : Fin 128) : turned (F := Ideal) v (ix2 l s) = v (ix3 0 s l) := by
  pointwise [turned]

theorem out_apply (i : grid0.Coords) (arg4 : Memref sig .tc .vmem S384x4096 .bf16) (harg4 : arg4.IsWhole) (harg5 : arg5.IsWhole)
    (y : S384x4096.Idx) :
    out0_A_3 (F := Ideal) c i arg1 harg1 arg2 harg2 arg3 harg3 arg4 harg4 arg5 harg5 x0 x1 x2 y
      = outVal arg1 harg1 arg2 harg2 arg3 harg3 x0 x1 x2 y := by
  unfold out0_A_3
  rw [View.read_writes_junk_eq_canon, outs_eq]
  refine View.canon_apply_of_pieces (Val := Elt Ideal) (e := .bf16) (outVal arg1 harg1 arg2 harg2 arg3 harg3 x0 x1 x2) _ (fun p hp j => ?_) y ?_
  · obtain ⟨n, hn, rfl⟩ := (mem_down _ _ _).1 hp
    have e : j = ix2 (j 0) (j 1) := by
      funext a; match a with | ⟨0, _⟩ => rfl | ⟨1, _⟩ => rfl
    have h0 : (j 0).val < 128 := (j 0).isLt
    have h1 : (j 1).val < 128 := (j 1).isLt
    show turned (arg5.view.readCov (kernelRun0_A.sl.HS0_96 c arg1 harg1 arg2 harg2 arg3 harg3 x0 x1 x2)
      (rBack ⟨n / 32 % 3, _⟩ ⟨n % 32, _⟩).toLoadRect) j = _
    rw [View.readCov_eq_canon', e]
    refine (turned_apply _ _ _).trans ?_
    rw [← e, acc_canon]
    unfold accVal outVal
    have key : ∀ (m m' : Fin 32) (s s' : Fin 128) (x x' : Fin 384), m.val = m'.val → s.val = s'.val → x.val = x'.val →
        prodOf (F := Ideal) arg1 harg1 arg2 harg2 arg3 harg3 x0 x1 x2 m (ix2 s x) = prodOf (F := Ideal) arg1 harg1 arg2 harg2 arg3 harg3 x0 x1 x2 m' (ix2 s' x') := by
      intro m m' s s' x x' em es ex
      rw [Fin.ext em, Fin.ext es, Fin.ext ex]
    refine key _ _ _ _ _ _ ?_ ?_ ?_
    · show (128 * (n % 32) + 1 * (j 1).val) % 32 = (128 * (n % 32) + 1 * (j 1).val) % 32; rfl
    · show (128 * (n % 32) + 1 * (j 1).val) / 32 = (128 * (n % 32) + 1 * (j 1).val) / 32; rfl
    · show 128 * (n / 32 % 3 + 1 * 0) + (0 + 1 * (j 0).val) = 128 * (n / 32 % 3) + 1 * (j 0).val; omega
  · have h0 : (y 0).val < 384 := (y 0).isLt
    have h1 : (y 1).val < 4096 := (y 1).isLt
    refine ⟨_, (mem_down _ _ _).2 ⟨32 * ((y 0).val / 128) + (y 1).val / 128, by omega, rfl⟩, ?_⟩
    refine (Rect.mem_set_unit (inb := inb_out _ _)).2 fun a => ?_
    match a with
    | ⟨0, _⟩ =>
      show 128 * ((32 * ((y 0).val / 128) + (y 1).val / 128) / 32 % 3) ≤ (y 0).val
        ∧ (y 0).val < 128 * ((32 * ((y 0).val / 128) + (y 1).val / 128) / 32 % 3) + 128
      omega
    | ⟨1, _⟩ =>
      show 128 * ((32 * ((y 0).val / 128) + (y 1).val / 128) % 32) ≤ (y 1).val
        ∧ (y 1).val < 128 * ((32 * ((y 0).val / 128) + (y 1).val / 128) % 32) + 128
      omega

/-- The product over the loads, at an entry, from the blocks' contents. -/
theorem prodOf_apply (m : Fin 32) (s : Fin 128) (x : Fin 384)
    (hc : ∀ i, ∀ j < 4, (PackedCount.byte (x1 i) j).toNat < 32) (h0 : (0 : EReal) ≤ x0 (ix1 m)) (ht : (x0 (ix1 m) : EReal) < ⊤) :
    prodOf (F := Ideal) arg1 harg1 arg2 harg2 arg3 harg3 x0 x1 x2 m (ix2 s x)
      = ∑ k : Fin 256, (x2 (ix3 m s k) : EReal) * (x0 (ix1 m) : EReal)
        * (((PackedCount.byte (x1 (ix4 ⟨x.val / 32, by omega⟩ ⟨m.val * 2 + k.val / 128, by omega⟩ ⟨x.val / 4 % 8, by omega⟩
            ⟨k.val % 128, by omega⟩)) (x.val % 4)).toNat : ℝ) : EReal) := by
  unfold prodOf
  rw [View.readAt_eq_ld, View.readAt_eq_ld, harg1.read_unread, harg3.read_unread]
  have hL : (fun (g : Fin 12) (h : Fin 2) => View.readAt (Elt Ideal) arg2.view (rCnt m g h).toLoadRect (harg2.unread x1))
      = fun g h => View.ld x1 (rCnt m g h) := by
    funext g h
    rw [View.readAt_eq_ld, harg2.read_unread]
  rw [hL]
  have hsc : View.ld x0 (rSc m) (Shape.Idx.first (one_numel m)) = x0 (ix1 m) :=
    congrArg x0 (funext fun a => by match a with | ⟨0, _⟩ => rfl)
  rw [hsc, prod_apply _ _ _ _ _ ?_ h0 ht]
  · refine Finset.sum_congr rfl fun k _ => ?_
    have hcb : View.ld x2 (rCb m) (ix3 0 s k) = x2 (ix3 m s k) := congrArg x2 (funext fun a => by
      match a with
      | ⟨0, _⟩ => exact Fin.ext (by show m.val + 1 * 0 = m.val; omega)
      | ⟨1, _⟩ => exact Fin.ext (by show 0 + 1 * s.val = s.val; omega)
      | ⟨2, _⟩ => exact Fin.ext (by show 0 + 1 * k.val = k.val; omega))
    have hcnt : count (fun g h => View.ld x1 (rCnt m g h)) x k
        = PackedCount.byte (x1 (ix4 ⟨x.val / 32, by omega⟩ ⟨m.val * 2 + k.val / 128, by omega⟩ ⟨x.val / 4 % 8, by omega⟩
            ⟨k.val % 128, by omega⟩)) (x.val % 4) := by
      unfold count
      refine congrArg (fun w => PackedCount.byte w (x.val % 4)) (congrArg x1 (funext fun a => ?_))
      match a with
      | ⟨0, _⟩ => exact Fin.ext (by show x.val / 32 + 1 * 0 = x.val / 32; omega)
      | ⟨1, _⟩ => exact Fin.ext (by show 2 * m.val + k.val / 128 + 1 * 0 = m.val * 2 + k.val / 128; omega)
      | ⟨2, _⟩ => exact Fin.ext (by show 0 + 1 * (x.val / 4 % 8) = x.val / 4 % 8; omega)
      | ⟨3, _⟩ => exact Fin.ext (by show 0 + 1 * (k.val % 128) = k.val % 128; omega)
    rw [hcb, hcnt]
  · intro k
    exact hc _ _ (by omega)

end

end Cert.KernelIdeal.Pool

end

end
-- ==== Proof.KernelValue.lean ====
/-
  The kernel's result over the extended reals: the blocks its five grid points read and write are joined up, and under the
  precondition (`Good`) every entry of the array it returns is `PackedCount.pool` of the arguments (`final_apply`).
-/
module

public import proofs.«01_k».proof.Proof.Acc
public import Idealize.ShloMosaic.Lib.Pipeline.Value

@[expose] public section

noncomputable section

namespace Cert.KernelIdeal.Pool

open Cert.KernelIdeal Cert.KernelIdeal.Gen Idealize.ShloMosaic Idealize.ShloMosaic.TcCoe Idealize.SL.Sem

/-! ## Where each window's block lies in its array -/

theorem index0 : ∀ t : Fin cfg0.N, win0_0.index t (0 : Fin 1) = 0 := (by decide +kernel : ∀ t : Fin grid0.N, _)
theorem index1 : ∀ t : Fin cfg0.N, win0_1.index t (0 : Fin 4) = t.val ∧ win0_1.index t (1 : Fin 4) = 0
    ∧ win0_1.index t (2 : Fin 4) = 0 ∧ win0_1.index t (3 : Fin 4) = 0 := (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)

theorem lt5 (t : Fin cfg0.N) : t.val < 5 := t.isLt

theorem emb0 (t : Fin cfg0.N) (j : S32.Idx) : ((cfg0.win 0).blk t).view.emb j = j := by
  have e0 := index0 t
  funext a; apply Fin.ext
  match a with
  | ⟨0, _⟩ => show win0_0.index t (0 : Fin 1) * 32 + 1 * (j 0).val = (j 0).val; omega

/-- Grid point `t` sees the counts of the groups from `12 t` on. -/
theorem emb1 (t : Fin cfg0.N) (g : Fin 12) (r : Fin 64) (q : Fin 8) (l : Fin 128) :
    ((cfg0.win 1).blk t).view.emb (ix4 g r q l : S12x64x8x128.Idx)
      = (ix4 ⟨12 * t.val + g.val, by have := lt5 t; omega⟩ r q l : S60x64x8x128.Idx) := by
  obtain ⟨e0, e1, e2, e3⟩ := index1 t
  funext a; apply Fin.ext
  match a with
  | ⟨0, _⟩ => show win0_1.index t (0 : Fin 4) * 12 + 1 * g.val = 12 * t.val + g.val; omega
  | ⟨1, _⟩ => show win0_1.index t (1 : Fin 4) * 64 + 1 * r.val = r.val; omega
  | ⟨2, _⟩ => show win0_1.index t (2 : Fin 4) * 8 + 1 * q.val = q.val; omega
  | ⟨3, _⟩ => show win0_1.index t (3 : Fin 4) * 128 + 1 * l.val = l.val; omega

theorem emb2 (t : Fin cfg0.N) (j : S32x128x256.Idx) : ((cfg0.win 2).blk t).view.emb j = j := by
  obtain ⟨e0, e1, e2⟩ := index2 t
  funext a; apply Fin.ext
  match a with
  | ⟨0, _⟩ => show win0_2.index t (0 : Fin 3) * 32 + 1 * (j 0).val = (j 0).val; omega
  | ⟨1, _⟩ => show win0_2.index t (1 : Fin 3) * 128 + 1 * (j 1).val = (j 1).val; omega
  | ⟨2, _⟩ => show win0_2.index t (2 : Fin 3) * 256 + 1 * (j 2).val = (j 2).val; omega

/-- Grid point `t` writes the bags from `384 t` on. -/
theorem emb3 (t : Fin cfg0.N) (x : Fin 384) (y : Fin 4096) :
    ((cfg0.win 3).blk t).view.emb (ix2 x y : S384x4096.Idx)
      = (ix2 ⟨384 * t.val + x.val, by have := lt5 t; omega⟩ y : S1920x4096.Idx) := by
  obtain ⟨e0, e1⟩ := index3 t
  funext a; apply Fin.ext
  match a with
  | ⟨0, _⟩ => show win0_3.index t (0 : Fin 2) * 384 + 1 * x.val = 384 * t.val + x.val; omega
  | ⟨1, _⟩ => show win0_3.index t (1 : Fin 2) * 4096 + 1 * y.val = y.val; omega

variable (m : (ℓ : Loc nD τ sig) → Buf (Elt Ideal) ℓ) (ρ : Dev nD → PrngReg)

/-- The three arguments as launched, read at their coordinates. -/
def cbAt (c : Dev nD) (a : Fin 32) (k : Fin 256) (s : Fin 128) : EReal := m ((c : Thread nD τ).loc main_arg0) (ix3 a k s)
def scAt (c : Dev nD) (a : Fin 32) : EReal := m ((c : Thread nD τ).loc main_arg1) (ix1 a)
def cntAt (c : Dev nD) (g : Fin 60) (r : Fin 64) (q : Fin 8) (l : Fin 128) : BitVec 32 := m ((c : Thread nD τ).loc main_arg2) (ix4 g r q l)

/-- What the precondition says: every count is below 32, every scale a finite number that is not negative. -/
structure Good (c : Dev nD) : Prop where
  count : ∀ g r q l, ∀ j < 4, (PackedCount.byte (cntAt m c g r q l) j).toNat < 32
  nonneg : ∀ a, 0 ≤ scAt m c a
  finite : ∀ a, scAt m c a < ⊤

/-! ## The blocks that a grid point reads -/

/-- The codebooks as the region finds them: the argument with its last two axes exchanged. -/
theorem V_main_v0 (c : Dev nD) : V m c main_v0
    = transpose S32x128x256 [0, 2, 1] (m ((c : Thread nD τ).loc main_arg0) : Vec Ideal S32x256x128 .fp8e4m3) transposes_S32x256x128_S32x128x256_0_2_1 := by
  show StableHlo.after hostOps0 (fun b => m (c, b)) (Proc.devRef .tc main_v0) = _
  simp only [hostOps0]
  after_results <;> rfl

theorem scale_at (c : Dev nD) (t : Fin cfg0.N) (a : Fin 32) : (iblk m c 0 t : Vec Ideal S32 .f32) (ix1 a) = scAt m c a := by
  show V m c main_arg1 (((cfg0.win 0).blk t).view.emb (ix1 a)) = _
  rw [emb0, V_main_arg1]; rfl

theorem count_at (c : Dev nD) (t : Fin cfg0.N) (g : Fin 12) (r : Fin 64) (q : Fin 8) (l : Fin 128) :
    (iblk m c 1 t : Vec Ideal S12x64x8x128 .i32) (ix4 g r q l) = cntAt m c ⟨12 * t.val + g.val, by have := lt5 t; omega⟩ r q l := by
  show V m c main_arg2 (((cfg0.win 1).blk t).view.emb (ix4 g r q l)) = _
  rw [emb1, V_main_arg2]; rfl

theorem code_at (c : Dev nD) (t : Fin cfg0.N) (a : Fin 32) (s : Fin 128) (k : Fin 256) :
    (iblk m c 2 t : Vec Ideal S32x128x256 .fp8e4m3) (ix3 a s k) = cbAt m c a k s := by
  show V m c main_v0 (((cfg0.win 2).blk t).view.emb (ix3 a s k)) = _
  rw [emb2, V_main_v0]
  pointwise
  rfl

/-! ## The array after the run -/

/-- The result: `PackedCount.pool` of the arguments at every entry. -/
def G (c : Dev nD) : Vec Ideal S1920x4096 .bf16 := fun y => PackedCount.pool (cbAt m c) (scAt m c) (cntAt m c) (y 0) (y 1)

theorem pool_at (c : Dev nD) (hg : Good m c) (t : Fin cfg0.N) (x : Fin 384) (y : Fin 4096) :
    out0_A_3 (F := Ideal) c (grid0.coords t) (ms0_0 t) (hs0_0 t) (ms0_1 t) (hs0_1 t) (ms0_2 t) (hs0_2 t) (ms0_3 t) (hs0_3 t) scM0_0
        (Memref.isWhole_whole _) (iblk m c 0 t) (iblk m c 1 t) (iblk m c 2 t) (ix2 x y)
      = PackedCount.pool (cbAt m c) (scAt m c) (cntAt m c) ⟨384 * t.val + x.val, by have := lt5 t; omega⟩ y := by
  refine (out_apply c _ _ _ _ _ _ _ _ _ _ _ _ _ _ _).trans ?_
  refine (prodOf_apply _ _ _ _ _ _ _ _ _ _ _ _ ?_ ?_ ?_).trans ?_
  · intro i j hj
    obtain ⟨g, r, q, l, rfl⟩ : ∃ (g : Fin 12) (r : Fin 64) (q : Fin 8) (l : Fin 128), i = ix4 g r q l :=
      ⟨i 0, i 1, i 2, i 3, by funext a; match a with | ⟨0, _⟩ => rfl | ⟨1, _⟩ => rfl | ⟨2, _⟩ => rfl | ⟨3, _⟩ => rfl⟩
    exact lt_of_eq_of_lt (congrArg (fun w => (PackedCount.byte w j).toNat) (count_at m c t g r q l)) (hg.count _ _ _ _ j hj)
  · rw [scale_at]; exact hg.nonneg _
  · rw [scale_at]; exact hg.finite _
  · unfold PackedCount.pool
    refine Finset.sum_congr rfl fun k _ => ?_
    have hx : x.val < 384 := x.isLt
    refine congrArg₂ (· * ·) (congrArg₂ (· * ·) (code_at m c t _ _ _) (scale_at m c t _)) ?_
    have e : ∀ (w w' : BitVec 32) (j j' : ℕ), w = w' → j = j' →
        (((PackedCount.byte w j).toNat : ℝ) : EReal) = (((PackedCount.byte w' j').toNat : ℝ) : EReal) := by
      rintro w _ j _ rfl rfl; rfl
    refine e _ _ _ _ ((count_at m c t _ _ _ _).trans ?_) ?_
    · have key : ∀ (g g' : Fin 60) (r r' : Fin 64) (q q' : Fin 8) (l l' : Fin 128), g.val = g'.val → r.val = r'.val → q.val = q'.val → l.val = l'.val →
          cntAt m c g r q l = cntAt m c g' r' q' l' := by
        intro g g' r r' q q' l l' h1 h2 h3 h4
        rw [Fin.ext h1, Fin.ext h2, Fin.ext h3, Fin.ext h4]
      refine key _ _ _ _ _ _ _ _ ?_ ?_ ?_ ?_
      · show 12 * t.val + x.val / 32 = (384 * t.val + x.val) / 32; omega
      · rfl
      · show x.val / 4 % 8 = (384 * t.val + x.val) / 4 % 8; omega
      · rfl
    · show x.val % 4 = (384 * t.val + x.val) % 4; omega

theorem flushed_eq (c : Dev nD) (hg : Good m c) (t : Fin cfg0.N) :
    (dats m 0 c).flushed 3 t = ((cfg0.win 3).blk t).view.read (Elt Ideal) (G m c) := by
  rw [Value.flushed3_A]
  funext (j : S384x4096.Idx)
  obtain ⟨x, y, rfl⟩ : ∃ (x : Fin 384) (y : Fin 4096), j = ix2 x y :=
    ⟨j 0, j 1, by funext a; match a with | ⟨0, _⟩ => rfl | ⟨1, _⟩ => rfl⟩
  exact (pool_at m c hg t x y).trans (congrArg (G m c) (emb3 t x y)).symm

theorem mem_block (t : Fin cfg0.N) (x : Fin 384) (y : Fin 4096) :
    (ix2 ⟨384 * t.val + x.val, by have := lt5 t; omega⟩ y : S1920x4096.Idx) ∈ ((cfg0.win 3).blk t).view.set :=
  emb3 t x y ▸ ((cfg0.win 3).blk t).view.emb_mem_set _

theorem covered (i : S1920x4096.Idx) : ∃ t : Fin cfg0.N, (cfg0.win 3).flush t = true ∧ i ∈ ((cfg0.win 3).blk t).view.set := by
  obtain ⟨b, y, rfl⟩ : ∃ (b : Fin 1920) (y : Fin 4096), i = ix2 b y :=
    ⟨i 0, i 1, by funext a; match a with | ⟨0, _⟩ => rfl | ⟨1, _⟩ => rfl⟩
  obtain ⟨t, ht⟩ : ∃ t : Fin cfg0.N, t.val = b.val / 384 := ⟨⟨b.val / 384, by show b.val / 384 < 5; omega⟩, rfl⟩
  refine ⟨t, flush0_3 t, ?_⟩
  have e : b = ⟨384 * t.val + b.val % 384, by have := lt5 t; omega⟩ := by apply Fin.ext; show b.val = 384 * t.val + b.val % 384; omega
  have h := mem_block t ⟨b.val % 384, by omega⟩ y
  rw [e]
  exact h

/-- The result array after the run. -/
theorem final (c : Dev nD) (hg : Good m c) : (dats m 0 c).arrAt 3 cfg0.N = G m c :=
  (dats m 0 c).arrAt_eq_of_cover 3 (G m c) (fun t _ => flushed_eq m c hg t) covered

end Cert.KernelIdeal.Pool

end

end
-- ==== Proof.RefValue.lean ====
/-
  The reference's result over the extended reals. Its one kernel region leaves the dequantised codebooks (`rows_eq`); the host
  operations after it unpack the counts and contract, which at one entry is `PackedCount.pool` (`result_apply`).
-/
module

public import proofs.«01_k».proof.Proof.Gen.ReferenceIdeal.Run
public import proofs.«01_k».proof.Proof.Count
public import Idealize.ShloMosaic.Lib.Pointwise
public import Idealize.ShloMosaic.Lib.Pipeline.Value
public import Idealize.ShloMosaic.Lib.ValueIdx

@[expose] public section

noncomputable section

namespace Cert.ReferenceIdeal.Pool

open Cert.ReferenceIdeal Cert.ReferenceIdeal.Gen Idealize.ShloMosaic Idealize.ShloMosaic.TcCoe Idealize.SL.Sem

/-- The host operations after the region, as one function of the dequantised rows and the packed counts. -/
def pooled (rows : FVec Ideal S32x256x128 .f32) (cnt : IVec S60x64x8x128 32) : FVec Ideal S1920x4096 .bf16 :=
  truncf .bf16 (shapeCast S1920x4096 (transpose S1920x128x32 [0, 2, 1] (transpose S1920x32x128 [2, 0, 1] (Host.dotGeneral dot_S32x256x128_S1920x32x256_S32x128x1920_1_2_2_0_0_1 (some .fp32) rows (sitofp .f32 (shapeCast S1920x32x256 (transpose S60x8x4x32x2x128 [0, 3, 4, 1, 2, 5] (andi (Host.shrsi (broadcastInDim S60x32x2x8x4x128 ![0, 1, 2, 3, 4, 5] Facts₀.bcast_S60x32x2x8x1x128_S60x32x2x8x4x128_0_1_2_3_4_5 (shapeCast S60x32x2x8x1x128 cnt Facts₀.shapeCasts_S60x64x8x128_S60x32x2x8x1x128)) (broadcastInDim S60x32x2x8x4x128 ![0, 1, 2, 3, 4, 5] Facts₀.bcast_S1x1x1x1x4x1_S60x32x2x8x4x128_0_1_2_3_4_5 (shapeCast S1x1x1x1x4x1 (muli (broadcastInDim S4 ![] Facts₀.bcast_S_S4 (constantI S_ 32 8#32)) (iotaInDim S4 32 0)) Facts₀.shapeCasts_S4_S1x1x1x1x4x1))) (broadcastInDim S60x32x2x8x4x128 ![] Facts₀.bcast_S_S60x32x2x8x4x128 (constantI S_ 32 255#32))) Facts₀.transposes_S60x32x2x8x4x128_S60x8x4x32x2x128_0_3_4_1_2_5) Facts₀.shapeCasts_S60x8x4x32x2x128_S1920x32x256))) Facts₀.transposes_S32x128x1920_S1920x32x128_2_0_1) Facts₀.transposes_S1920x32x128_S1920x128x32_0_2_1) Facts₀.shapeCasts_S1920x128x32_S1920x4096) Facts₀.bitsLt_bf16_f32

/-- The host operations' result at one entry: the sum over the codes of the row's value times the byte of the packed count. -/
theorem pooled_apply (rows : FVec Ideal S32x256x128 .f32) (cnt : IVec S60x64x8x128 32) (b : Fin 1920) (y : Fin 4096) :
    pooled rows cnt (ix2 b y) = ∑ k : Fin 256, rows (ix3 ⟨y.val % 32, by omega⟩ k ⟨y.val / 32, by omega⟩)
      * (((PackedCount.byte (cnt (ix4 ⟨b.val / 32, by omega⟩ ⟨y.val % 32 * 2 + k.val / 128, by omega⟩ ⟨b.val / 4 % 8, by omega⟩
          ⟨k.val % 128, by omega⟩)) (b.val % 4)).toNat : ℝ) : EReal) := by
  pointwise [pooled]
  exact Finset.sum_congr rfl fun k _ => congrArg _ (PackedCount.sitofp_byte _ _ (by omega))

/-! ## The region's output -/

theorem hz : (![0, 0, 0] : Fin 3 → Nat) = fun _ => 0 := funext fun a => by fin_cases a <;> rfl

/-- What the body leaves in its output block, from the blocks of the scales and of the codebooks. -/
theorem out_eq (x0 : Vec Ideal S32x1x1 .f32) (x1 : Vec Ideal S32x256x128 .fp8e4m3) : out0_2 (F := Ideal) x0 x1 = k0_pay1 x1 x0 := by
  unfold out0_2
  rw [View.canon_unit_zero hz, View.ld_unit_zero hz, View.ld_unit_zero hz]

/-- Each entry of it: the codebook's value times its scale. -/
theorem pay_apply (x0 : Vec Ideal S32x1x1 .f32) (x1 : Vec Ideal S32x256x128 .fp8e4m3) (a : Fin 32) (k : Fin 256) (s : Fin 128) :
    k0_pay1 x1 x0 (ix3 a k s) = (x1 (ix3 a k s) : EReal) * (x0 (ix3 a 0 0) : EReal) := by
  pointwise [k0_pay1]

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb0 (t : Fin cfg0.N) (j : S32x1x1.Idx) : ((cfg0.win 0).blk t).view.emb j = j := by
  obtain ⟨e0, e1, e2⟩ := idx_zero0 t
  funext a; apply Fin.ext
  match a with
  | ⟨0, _⟩ => show win0_0.index t (0 : Fin 3) * 32 + 1 * (j 0).val = (j 0).val; omega
  | ⟨1, _⟩ => show win0_0.index t (1 : Fin 3) * 1 + 1 * (j 1).val = (j 1).val; omega
  | ⟨2, _⟩ => show win0_0.index t (2 : Fin 3) * 1 + 1 * (j 2).val = (j 2).val; omega
theorem emb1 (t : Fin cfg0.N) (j : S32x256x128.Idx) : ((cfg0.win 1).blk t).view.emb j = j := by
  obtain ⟨e0, e1, e2⟩ := idx_zero1 t
  funext a; apply Fin.ext
  match a with
  | ⟨0, _⟩ => show win0_1.index t (0 : Fin 3) * 32 + 1 * (j 0).val = (j 0).val; omega
  | ⟨1, _⟩ => show win0_1.index t (1 : Fin 3) * 256 + 1 * (j 1).val = (j 1).val; omega
  | ⟨2, _⟩ => show win0_1.index t (2 : Fin 3) * 128 + 1 * (j 2).val = (j 2).val; omega
theorem emb2 (t : Fin cfg0.N) (j : S32x256x128.Idx) : ((cfg0.win 2).blk t).view.emb j = j := by
  obtain ⟨e0, e1, e2⟩ := idx_zero2 t
  funext a; apply Fin.ext
  match a with
  | ⟨0, _⟩ => show win0_2.index t (0 : Fin 3) * 32 + 1 * (j 0).val = (j 0).val; omega
  | ⟨1, _⟩ => show win0_2.index t (1 : Fin 3) * 256 + 1 * (j 1).val = (j 1).val; omega
  | ⟨2, _⟩ => show win0_2.index t (2 : Fin 3) * 128 + 1 * (j 2).val = (j 2).val; omega

variable (m : (ℓ : Loc nD τ sig) → Buf (Elt Ideal) ℓ) (ρ : Dev nD → PrngReg)

/-- The three arguments as launched, read at their coordinates. -/
def cbAt (c : Dev nD) (a : Fin 32) (k : Fin 256) (s : Fin 128) : EReal := m ((c : Thread nD τ).loc main_arg0) (ix3 a k s)
def scAt (c : Dev nD) (a : Fin 32) : EReal := m ((c : Thread nD τ).loc main_arg1) (ix1 a)
def cntAt (c : Dev nD) (g : Fin 60) (r : Fin 64) (q : Fin 8) (l : Fin 128) : BitVec 32 := m ((c : Thread nD τ).loc main_arg2) (ix4 g r q l)

theorem iblk0_eq (c : Dev nD) (t : Fin cfg0.N) : iblk m c 0 t = V m c main_v0 := by
  funext j; show V m c main_v0 (((cfg0.win 0).blk t).view.emb j) = V m c main_v0 j; rw [emb0]
theorem iblk1_eq (c : Dev nD) (t : Fin cfg0.N) : iblk m c 1 t = V m c main_arg0 := by
  funext j; show V m c main_arg0 (((cfg0.win 1).blk t).view.emb j) = V m c main_arg0 j; rw [emb1]

/-- The scales as the region finds them: the argument, reshaped. -/
theorem V_main_v0 (c : Dev nD) : V m c main_v0
    = shapeCast S32x1x1 (m ((c : Thread nD τ).loc main_arg1) : Vec Ideal S32 .f32) Facts₀.shapeCasts_S32_S32x1x1 := by
  show StableHlo.after (List.flatten [hostOps0]) (fun b => m (c, b)) (Proc.devRef .tc main_v0) = _
  simp only [hostOps0, List.flatten_cons, List.flatten_nil, List.append_nil]
  after_results <;> rfl

theorem cut2_eq (t : Fin cfg0.N) (X : Vec Ideal S32x256x128 .f32) :
    (cfg0.win 2).cut (grid0.coords t) X = ((cfg0.win 2).blk t).view.read (Elt Ideal) X := by
  funext j
  show X j = X (((cfg0.win 2).blk t).view.emb j)
  rw [emb2]

theorem flushed2_eq (c : Dev nD) (t : Fin cfg0.N) :
    (dats m 0 c).flushed 2 t = ((cfg0.win 2).blk t).view.read (Elt Ideal) (k0_pay1 (V m c main_arg0) (V m c main_v0)) := by
  show (cfg0.win 2).cut (grid0.coords t) ((dats m 0 c).after 2 t) = _
  rw [after0_2, out_eq, iblk0_eq, iblk1_eq]
  exact cut2_eq t _

theorem covered2 (i : S32x256x128.Idx) :
    ∃ t : Fin cfg0.N, (cfg0.win 2).flush t = true ∧ i ∈ ((cfg0.win 2).blk t).view.set :=
  ⟨t0_0, flush0_2 _, by
    have h := ((cfg0.win 2).blk t0_0).view.emb_mem_set i; rwa [emb2] at h⟩

/-- What the region leaves: every codebook entry times its codebook's scale. -/
theorem rows_apply (c : Dev nD) (a : Fin 32) (k : Fin 256) (s : Fin 128) :
    (Value.reg_main_v1 m c : FVec Ideal S32x256x128 .f32) (ix3 a k s)
      = cbAt m c a k s * scAt m c a := by
  have h : Value.reg_main_v1 m c = k0_pay1 (V m c main_arg0) (V m c main_v0) :=
    (dats m 0 c).arrAt_eq_of_cover 2 _ (fun t _ => flushed2_eq m c t) covered2
  rw [h, pay_apply, V_main_arg0, V_main_v0]
  pointwise
  rfl

/-- The reference's result at one entry. -/
theorem result_apply (c : Dev nD) (b : Fin 1920) (y : Fin 4096) :
    pooled (Value.reg_main_v1 m c) (m ((c : Thread nD τ).loc main_arg2)) (ix2 b y)
      = PackedCount.pool (cbAt m c) (scAt m c) (cntAt m c) b y := by
  rw [pooled_apply]
  unfold PackedCount.pool
  refine Finset.sum_congr rfl fun k _ => ?_
  rw [rows_apply]
  rfl

/-- The reference's run, its result named by `pooled`. -/
theorem run : θ_run defs (onTc (τ := τ) (main (F := Ideal))) ⟨m, fun _ => 0, ρ⟩ fun r => ∀ c : Dev nD,
      r.2.mem ((c.tc : Thread nD τ).loc main_v19) = pooled (Value.reg_main_v1 m c) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.ReferenceIdeal.Pool

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Bags
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

attribute [local instance] Cert.Pre_real_bags.facts

/-- Under the precondition the counts and the scales are as the kernel's value needs them. -/
theorem good (m : (ℓ : Loc Cert.KernelIdeal.nD Cert.KernelIdeal.τ Cert.KernelIdeal.sig) → Buf (Elt Ideal) ℓ)
    (h : Cert.Pre_KernelIdeal_real_bags m) (c : Dev Cert.KernelIdeal.nD) : Cert.KernelIdeal.Pool.Good m c := by
  obtain ⟨h1, h2, h3⟩ := Cert.Pre_real_bags.read _ _ _ (h c)
  exact ⟨fun g r q l j hj => Cert.Pre_real_bags.byte_lt _ j hj (h1 (ix4 g r q l)), fun a => h2 (ix1 a), fun a => h3 (ix1 a)⟩

/-- Kernel and reference end with the same array. -/
theorem algebraic : Cert.algebraic_KernelIdeal_ReferenceIdeal_pre_real_bags (hKernelIdeal := Cert.KernelIdeal.Gen.facts)
    (hReferenceIdeal := Cert.ReferenceIdeal.Gen.facts) (hPre_real_bags := Cert.Pre_real_bags.facts) := by
  intro m g m' g' hpre hargs
  refine ⟨Cert.KernelIdeal.Pool.G m, ?_, ?_⟩
  · exact (θ_run _ _ _).mono (fun r h c => ⟨(h c).1.trans (Cert.KernelIdeal.Pool.final m c (good m hpre c)), (h c).2⟩)
      (Cert.KernelIdeal.Value.run_blocks (F := Ideal) m g)
  · refine (θ_run _ _ _).mono (fun r h c => ⟨(h c).1.trans ?_, (h c).2⟩) (Cert.ReferenceIdeal.Pool.run m' g')
    obtain ⟨h0, h1, h2⟩ := hargs c
    have e0 : Cert.ReferenceIdeal.Pool.cbAt m' c = Cert.KernelIdeal.Pool.cbAt m c := by
      funext a k s; exact congrFun h0 (ix3 a k s)
    have e1 : Cert.ReferenceIdeal.Pool.scAt m' c = Cert.KernelIdeal.Pool.scAt m c := by
      funext a; exact congrFun h1 (ix1 a)
    have e2 : Cert.ReferenceIdeal.Pool.cntAt m' c = Cert.KernelIdeal.Pool.cntAt m c := by
      funext g r q l; exact congrFun h2 (ix4 g r q l)
    funext (i : Cert.KernelIdeal.S1920x4096.Idx)
    obtain ⟨b, y, rfl⟩ : ∃ (b : Fin 1920) (y : Fin 4096), i = ix2 b y :=
      ⟨i 0, i 1, by funext a; match a with | ⟨0, _⟩ => rfl | ⟨1, _⟩ => rfl⟩
    refine (Cert.ReferenceIdeal.Pool.result_apply m' c b y).trans ?_
    rw [e0, e1, e2]
    rfl

theorem claim : Cert.Claim :=
  ⟨Cert.Kernel.Gen.facts, Cert.KernelIdeal.Gen.facts, Cert.ReferenceIdeal.Gen.facts, Cert.Pre_real_bags.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
